-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_below_inf : Cert.Pre_below_inf.Facts),
    quiescent_Kernel (hKernel := hKernel)
    ∧ quiescent_KernelIdeal (hKernelIdeal := hKernelIdeal)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S16x1024x32 : Shape := ⟨3, ![16, 1024, 32]⟩
abbrev S8192x32 : Shape := ⟨2, ![8192, 32]⟩
abbrev S_ : Shape := ⟨0, ![]⟩

class Facts : Prop where
  bcast_S_S8192x32 : S_.BroadcastsInDim S8192x32 (![] : Fin 0 → Fin S8192x32.rank)

variable [Facts]

def fn {F : FTy → Type} [FloatOps F] (main_arg0 : FVec F S16x1024x32 .f32) (main_arg1 : FVec F S8192x32 .f32) : IVec S8192x32 1 :=
  let main_cst : FVec F S_ .f32 := constant S_ .f32 0x7F800000#32
  let main_v0 : FVec F S8192x32 .f32 := broadcastInDim S8192x32 ![] bcast_S_S8192x32 main_cst
  let main_v1 : IVec S8192x32 1 := cmpf .olt main_arg1 main_v0
  main_v1
-- ==== Kernel.lean ====
abbrev S16x1024x32 : Shape := ⟨3, ![16, 1024, 32]⟩
abbrev S8192x32 : Shape := ⟨2, ![8192, 32]⟩
abbrev S16384x32 : Shape := ⟨2, ![16384, 32]⟩
abbrev S64x1x256 : Shape := ⟨3, ![64, 1, 256]⟩
abbrev S256x32 : Shape := ⟨2, ![256, 32]⟩
abbrev S1x1x256 : Shape := ⟨3, ![1, 1, 256]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S1x16384 : Shape := ⟨2, ![1, 16384]⟩

abbrev nBuf : Space → Nat
  | .hbm => 6
  | .vmem => 7
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S64x1x256, .i32⟩
  | .hbm, ⟨5, _⟩ => ⟨S1x16384, .i32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S256x32, .f32⟩
  | .local _ .vmem, ⟨4, _⟩ => ⟨S256x32, .f32⟩
  | .local _ .vmem, ⟨5, _⟩ => ⟨S1x1x256, .i32⟩
  | .local _ .vmem, ⟨6, _⟩ => ⟨S1x1x256, .i32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩
abbrev S1x16384 : Shape := ⟨2, ![1, 16384]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S32x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | .hbm, ⟨30, _⟩ => ⟨S1x16384, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x32, .f32⟩
  | .hbm, ⟨51, _⟩ => ⟨S16384x32, .i1⟩
  | .hbm, ⟨52, _⟩ => ⟨S_, .f32⟩
  | .hbm, ⟨53, _⟩ => ⟨S16384x32, .f32⟩
  | .hbm, ⟨54, _⟩ => ⟨S16384x32, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v20 : Ref sig .tc := ⟨.hbm, 54, rfl⟩

abbrev nD : Nat := 1
abbrev τ : Topo := Topo.v7x

variable {F : FTy → Type} [FloatOps F]
-- ==== Proof.FirstMin.lean ====
/-
  The first position at which a finite row of extended reals is least, and the facts the two programs' searches for it
  rest on: it is unique, it depends on the order of the entries only, and the row's fold by `min` is the entry there.
-/
module

public import Mathlib.Data.EReal.Basic
public import Mathlib.Data.Finset.Max
public import Mathlib.Data.Finset.Fold
public import Mathlib.Data.Fintype.Basic
public import Mathlib.Data.Finset.Lattice.Fold

@[expose] public section

noncomputable section

namespace Vq

variable {n : ℕ} [NeZero n]

/-- Every nonempty row has an entry that is below all the others. -/
theorem exists_least (f : Fin n → EReal) : (Finset.univ.filter fun i => ∀ j, f i ≤ f j).Nonempty := by
  obtain ⟨i, -, hi⟩ := Finset.exists_min_image (Finset.univ : Finset (Fin n)) f ⟨0, Finset.mem_univ _⟩
  exact ⟨i, Finset.mem_filter.2 ⟨Finset.mem_univ _, fun j => hi j (Finset.mem_univ _)⟩⟩

/-- The first position at which the row `f` is least. -/
def firstMin (f : Fin n → EReal) : Fin n := (Finset.univ.filter fun i => ∀ j, f i ≤ f j).min' (exists_least f)

/-- The entry at the first least position is below every entry. -/
theorem firstMin_le (f : Fin n → EReal) (j : Fin n) : f (firstMin f) ≤ f j :=
  (Finset.mem_filter.1 (Finset.min'_mem _ (exists_least f))).2 j

/-- A position at which the row is least is not before the first one. -/
theorem firstMin_le_of_least {f : Fin n → EReal} {i : Fin n} (h : ∀ j, f i ≤ f j) : firstMin f ≤ i :=
  Finset.min'_le _ _ (Finset.mem_filter.2 ⟨Finset.mem_univ _, h⟩)

/-- A least position that no least position precedes is the first one. -/
theorem eq_firstMin {f : Fin n → EReal} {i : Fin n} (h : ∀ j, f i ≤ f j) (hi : i ≤ firstMin f) : i = firstMin f :=
  le_antisymm hi (firstMin_le_of_least h)

/-- Two rows whose entries compare alike are first least at the same position. -/
theorem firstMin_congr {f g : Fin n → EReal} (h : ∀ i j, f i ≤ f j ↔ g i ≤ g j) : firstMin f = firstMin g := by
  unfold firstMin
  congr 1
  ext i
  simp only [Finset.mem_filter, h]

/-- The fold of a row by `min` from the top is the entry at its first least position. -/
theorem fold_min_eq (f : Fin n → EReal) : Finset.univ.fold min ⊤ f = f (firstMin f) := by
  refine le_antisymm ?_ ?_
  · exact (Finset.fold_min_le _).2 (.inr ⟨firstMin f, Finset.mem_univ _, le_rfl⟩)
  · exact (Finset.le_fold_min _).2 ⟨le_top, fun j _ => firstMin_le f j⟩

end Vq

end
-- ==== Proof.Search.lean ====
/-
  The two searches for the nearest codebook row, each shown to return the word of `firstMin` of the row of distances:
  the kernel's, a signed minimum of the positions whose distance is at most the least one, and the reference's, a fold of
  (distance, position) pairs by a reducer that keeps the smaller distance and, of two equal ones, the smaller position.
-/
module

public import proofs.«01_k».proof.Proof.FirstMin
public import proofs.«01_k».proof.ReferenceIdeal
public import Idealize.ShloMosaic.Lib.Pointwise

@[expose] public section

noncomputable section

open Idealize.ShloMosaic Idealize.ShloMosaic.Ideal

namespace Vq

variable {n : ℕ} [NeZero n]

/-! ## Words of small naturals -/

/-- A natural below `2 ^ 31`, as a 32-bit word read signed, is itself. -/
theorem toInt_ofNat {k : ℕ} (hk : k < 2 ^ 31) : (BitVec.ofNat 32 k).toInt = k := by
  rw [BitVec.toInt_eq_toNat_cond, BitVec.toNat_ofNat]
  have h : k % 2 ^ 32 = k := Nat.mod_eq_of_lt (by omega)
  rw [h, if_pos (by omega)]

/-- The signed minimum of two words, read as an integer, is the smaller of the two. -/
theorem toInt_minsi (a b : BitVec 32) : (IntOp.minsi a b).toInt = min a.toInt b.toInt := by
  simp only [IntOp.minsi, BitVec.slt]
  split <;> rename_i h <;> simp at h <;> omega

/-- A fold of words by the signed minimum, read as an integer, is the fold of the integers by `min`. -/
theorem toInt_fold_minsi (a : BitVec 32) (w : Fin n → BitVec 32) :
    (Finset.univ.fold IntOp.minsi a w).toInt = Finset.univ.fold min a.toInt fun k => (w k).toInt :=
  (Finset.fold_hom (op := IntOp.minsi) (op' := min) (m := BitVec.toInt) toInt_minsi).symm

/-! ## The kernel's search -/

/-- The least of the positions whose entry is at most the row's fold by `min` (any other position counting as `c`, at
    least the row's length) is the first least position. -/
theorem fold_minsi_masked (f : Fin n → EReal) {c : ℕ} (hn : n ≤ c) (hc : c < 2 ^ 31) (w : Fin n → BitVec 32)
    (hw : ∀ k, w k = if f k ≤ Finset.univ.fold min ⊤ f then BitVec.ofNat 32 k.val else BitVec.ofNat 32 c) :
    Finset.univ.fold IntOp.minsi 2147483647#32 w = BitVec.ofNat 32 (firstMin f).val := by
  apply BitVec.eq_of_toInt_eq
  have hlt : ∀ k : Fin n, k.val < 2 ^ 31 := fun k => by have := k.isLt; omega
  rw [toInt_fold_minsi, toInt_ofNat (hlt _)]
  have hwi : ∀ k, (w k).toInt = if f k ≤ f (firstMin f) then (k.val : ℤ) else c := fun k => by
    rw [hw k, fold_min_eq]; split <;> exact toInt_ofNat (by first | exact hlt _ | exact hc)
  refine le_antisymm ?_ ?_
  · refine (Finset.fold_min_le _).2 (.inr ⟨firstMin f, Finset.mem_univ _, ?_⟩)
    rw [hwi, if_pos le_rfl]
  · refine (Finset.le_fold_min _).2 ⟨?_, fun k _ => ?_⟩
    · have := hlt (firstMin f)
      have h7 : (2147483647#32).toInt = 2147483647 := by decide
      rw [h7]; omega
    · rw [hwi]
      split
      · rename_i h
        have : firstMin f ≤ k := firstMin_le_of_least fun j => h.trans (firstMin_le f j)
        exact_mod_cast this
      · have := (firstMin f).isLt; omega

/-! ## The reference's search -/

/-- The order the reference's reducer keeps the least of: by distance, then by position read signed. -/
def PairLe (p q : EReal × BitVec 32) : Prop := p.1 < q.1 ∨ p.1 = q.1 ∧ p.2.toInt ≤ q.2.toInt

theorem PairLe.refl (p : EReal × BitVec 32) : PairLe p p := .inr ⟨rfl, le_rfl⟩

theorem PairLe.trans {p q r : EReal × BitVec 32} (h : PairLe p q) (h' : PairLe q r) : PairLe p r := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The reducer by cases on the two distances: the pair of the smaller, and at a tie the smaller position. -/
theorem reducer_eq (u v : EReal) (i k : BitVec 32) :
    Cert.ReferenceIdeal.reducer_argmin_f32_i32 (F := Ideal) (u, i) (v, k)
      = if u < v then (u, i) else if u = v then (v, if i.slt k then i else k) else (v, k) := by
  simp only [Cert.ReferenceIdeal.reducer_argmin_f32_i32, cmpf_def, Ideal.cmp, IntOp.cmpi, IntOp.ori, IntOp.andi,
    Scalar.select]
  by_cases h : u < v
  · simp [h, h.ne]
  · by_cases h' : u = v
    · subst h'
      by_cases hs : i.slt k = true <;> simp [hs]
    · simp [h, h']

/-- The reducer returns one of its two pairs, and that one is below both. -/
theorem reducer_spec (a b : EReal × BitVec 32) :
    (Cert.ReferenceIdeal.reducer_argmin_f32_i32 (F := Ideal) a b = a
      ∨ Cert.ReferenceIdeal.reducer_argmin_f32_i32 (F := Ideal) a b = b)
    ∧ PairLe (Cert.ReferenceIdeal.reducer_argmin_f32_i32 (F := Ideal) a b) a
    ∧ PairLe (Cert.ReferenceIdeal.reducer_argmin_f32_i32 (F := Ideal) a b) b := by
  obtain ⟨u, i⟩ := a
  obtain ⟨v, k⟩ := b
  rw [reducer_eq]
  split
  · rename_i h
    exact ⟨.inl rfl, .refl _, .inl h⟩
  · rename_i h
    split
    · rename_i h'
      subst h'
      split
      · rename_i hs
        have : i.toInt < k.toInt := by simpa [BitVec.slt] using hs
        exact ⟨.inl rfl, .refl _, .inr ⟨rfl, this.le⟩⟩
      · rename_i hs
        have : k.toInt ≤ i.toInt := by simpa [BitVec.slt] using hs
        exact ⟨.inr rfl, .inr ⟨rfl, this⟩, .refl _⟩
    · rename_i h'
      exact ⟨.inr rfl, .inl (lt_of_le_of_ne (not_lt.1 h) (Ne.symm h')), .refl _⟩

/-- The fold of a list of pairs by the reducer is one of the pairs or the initial one, and is below all of them. -/
theorem foldl_reducer_spec (L : List (EReal × BitVec 32)) (a : EReal × BitVec 32) :
    (L.foldl (Cert.ReferenceIdeal.reducer_argmin_f32_i32 (F := Ideal)) a = a
      ∨ L.foldl (Cert.ReferenceIdeal.reducer_argmin_f32_i32 (F := Ideal)) a ∈ L)
    ∧ PairLe (L.foldl (Cert.ReferenceIdeal.reducer_argmin_f32_i32 (F := Ideal)) a) a
    ∧ ∀ q ∈ L, PairLe (L.foldl (Cert.ReferenceIdeal.reducer_argmin_f32_i32 (F := Ideal)) a) q := by
  induction L generalizing a with
  | nil => exact ⟨.inl rfl, .refl _, fun q h => absurd h List.not_mem_nil⟩
  | cons b L ih =>
    obtain ⟨hmem, hle, hall⟩ := ih (Cert.ReferenceIdeal.reducer_argmin_f32_i32 (F := Ideal) a b)
    obtain ⟨hab, hla, hlb⟩ := reducer_spec a b
    rw [List.foldl_cons]
    refine ⟨?_, hle.trans hla, fun q hq => ?_⟩
    · rcases hmem with h | h
      · rcases hab with h' | h'
        · exact .inl (h.trans h')
        · exact .inr (List.mem_cons.2 (.inl (h.trans h')))
      · exact .inr (List.mem_cons_of_mem _ h)
    · rcases List.mem_cons.1 hq with rfl | hq
      · exact hle.trans hlb
      · exact hall q hq

/-- The fold, from the top at position zero, of a list holding exactly the pairs of a row's entries and their positions
    ends at the first least position. -/
theorem foldl_reducer_firstMin (f : Fin n → EReal) (hn : n < 2 ^ 31) (L : List (EReal × BitVec 32))
    (hL : ∀ p, p ∈ L ↔ ∃ k : Fin n, p = (f k, BitVec.ofNat 32 k.val)) :
    (L.foldl (Cert.ReferenceIdeal.reducer_argmin_f32_i32 (F := Ideal)) (⊤, 0#32)).2
      = BitVec.ofNat 32 (firstMin f).val := by
  obtain ⟨hmem, -, hall⟩ := foldl_reducer_spec L (⊤, 0#32)
  set r := L.foldl (Cert.ReferenceIdeal.reducer_argmin_f32_i32 (F := Ideal)) (⊤, 0#32) with hr
  have hlt : ∀ k : Fin n, k.val < 2 ^ 31 := fun k => by have := k.isLt; omega
  have hrL : r ∈ L := by
    rcases hmem with h | h
    · refine (hL r).2 ⟨0, ?_⟩
      have h0 := hall (f 0, BitVec.ofNat 32 (0 : Fin n).val) ((hL _).2 ⟨0, rfl⟩)
      rw [h] at h0 ⊢
      rcases h0 with h0 | ⟨h0, -⟩
      · exact absurd h0 not_top_lt
      · exact Prod.ext h0 rfl
    · exact h
  obtain ⟨k, hk⟩ := (hL r).1 hrL
  have hle : ∀ j, PairLe (f k, BitVec.ofNat 32 k.val) (f j, BitVec.ofNat 32 j.val) := fun j =>
    hk ▸ hall _ ((hL _).2 ⟨j, rfl⟩)
  have hleast : ∀ j, f k ≤ f j := fun j => by
    rcases hle j with h | ⟨h, -⟩
    · exact h.le
    · exact h.le
  have hfirst : k ≤ firstMin f := by
    rcases hle (firstMin f) with h | ⟨-, h⟩
    · exact absurd h (not_lt.2 (firstMin_le f k))
    · rw [toInt_ofNat (hlt _), toInt_ofNat (hlt _)] at h
      exact_mod_cast h
  rw [hk, ← eq_firstMin hleast hfirst]

/-- The reference's search along the rows of a table of distances: at row `r` the word of the row's first least position. -/
theorem argReduce_apply {a : ℕ} {t : Shape} (x : FVec Ideal ⟨2, ![a, n]⟩ .f32) (y : IVec ⟨2, ![a, n]⟩ 32)
    (ix : FVec Ideal ⟨0, ![]⟩ .f32) (iy : IVec ⟨0, ![]⟩ 32)
    (h : (⟨2, ![a, n]⟩ : Shape).ReducesTo [1] t) (hu : 0 < (⟨0, ![]⟩ : Shape).numel) (hn : n < 2 ^ 31) (j : t.Idx) (r : Fin a)
    (hr : (j ⟨0, h.lt_r2_a1_0⟩).val = r.val) (hix : ∀ i, ix i = ⊤) (hiy : ∀ i, iy i = 0#32)
    (hy : ∀ k : Fin n, y (ix2 r k) = BitVec.ofNat 32 k.val) :
    (Host.argReduce Cert.ReferenceIdeal.reducer_argmin_f32_i32 x y ix iy h hu j).2
      = BitVec.ofNat 32 (firstMin fun k : Fin n => x (ix2 r k)).val := by
  rw [argReduce_eq_reduce2, Host.reduce2_eq_foldl_fiber, hix, hiy]
  refine foldl_reducer_firstMin _ hn _ fun p => ?_
  have hrow : (⟨(j ⟨0, h.lt_r2_a1_0⟩).val, Shape.coordLt (j ⟨0, h.lt_r2_a1_0⟩) h.size_r2_a1_0⟩ : Fin a) = r := Fin.ext hr
  unfold Host.argReduceFiber
  simp only [List.mem_map, List.mem_filter, List.mem_finRange, true_and, decide_eq_true_eq]
  constructor
  · rintro ⟨m, hm, rfl⟩
    obtain ⟨k, hk⟩ := (h.fiber_r2_a1 j _).1 hm
    rw [hrow] at hk
    exact ⟨k, by rw [← hk, hy]⟩
  · rintro ⟨k, rfl⟩
    refine ⟨Shape.rowMajor _ (ix2 r k), (h.fiber_r2_a1 j _).2 ⟨k, ?_⟩, ?_⟩
    · rw [hrow, Equiv.symm_apply_apply]
    · rw [Equiv.symm_apply_apply, hy]

end Vq

end
-- ==== Proof.Payload.lean ====
/-
  What one tile of the kernel computes, read at an index: the clipped squared distances of its rows to the codebook,
  the words it stores for them, and the rows of the codebook it selects.
-/
module

public import proofs.«01_k».proof.Proof.Search
public import proofs.«01_k».proof.Proof.Gen.KernelIdeal.Skeleton
public import Idealize.ShloMosaic.Lib.Pointwise

@[expose] public section

set_option maxRecDepth 16384

noncomputable section

open Idealize.ShloMosaic
open Cert.KernelIdeal Cert.KernelIdeal.Gen

namespace Vq

/-- The f32 pattern of plus infinity denotes the top. -/
theorem ofBits_inf : Ideal.ofBits .f32 0x7F800000#32 = ⊤ := by
  simp [Ideal.ofBits, Ideal.ieee]

/-- The squared distance of the point `p` to the codebook row `w`, as both programs expand it. -/
def sqDist (p w : Fin 32 → EReal) : EReal :=
  ∑ e, p e * p e + ∑ e, w e * w e - Ideal.ofBits .f32 0x40000000#32 * ∑ e, p e * w e

/-- The first codebook row nearest to the point `p`, by the squared distance clipped at zero. -/
def nearest (p : Fin 32 → EReal) (w : Fin 8192 → Fin 32 → EReal) : Fin 8192 := firstMin fun k => max (sqDist p (w k)) 0

/-- The word a tile stores for its row `r` is the number of the first nearest codebook row. -/
theorem pay2_apply (v0 : FVec Ideal S256x32 .f32) (v2 : FVec Ideal S8192x32 .f32) (r : Fin 256) :
    k0_pay2 (F := Ideal) v0 v2 (ix1 r)
      = BitVec.ofNat 32 (nearest (fun e => v0 (ix2 r e)) fun k e => v2 (ix2 k e)).val := by
  pointwise [k0_pay2]
  refine fold_minsi_masked (fun k : Fin 8192 => max (sqDist (fun e => v0 (ix2 r e)) fun e => v2 (ix2 k e)) 0)
    (le_refl 8192) (by decide) _ fun k => ?_
  rw [ofBits_inf]
  rfl

/-- A sum weighted by the indicator of one position is the entry there. -/
theorem sum_indicator {n : ℕ} (i : Fin n) (g : Fin n → EReal) : ∑ k, (if k = i then (1 : EReal) else 0) * g k = g i := by
  rw [Finset.sum_eq_single i]
  · rw [if_pos rfl, one_mul]
  · intro k _ hk
    rw [if_neg hk, zero_mul]
  · exact fun h => absurd (Finset.mem_univ i) h

/-- The kernel's weight of position `k` for the stored word `i`, converted from the comparison's bit: one where the two
    agree and zero elsewhere. -/
theorem weight_eq (k i : Fin 8192) :
    (FloatOps.sitofp .f32 (BitVec.setWidth 32 (IntOp.cmpi .eq (BitVec.ofNat 32 k.val) (BitVec.ofNat 32 i.val))) : Ideal .f32)
      = if k = i then 1 else 0 := by
  have hiff : (BitVec.ofNat 32 k.val == BitVec.ofNat 32 i.val) = decide (k = i) := by
    rw [Bool.eq_iff_iff, beq_iff_eq, decide_eq_true_eq]
    constructor
    · intro h
      have h' := congrArg BitVec.toNat h
      rw [BitVec.toNat_ofNat, BitVec.toNat_ofNat] at h'
      have := k.isLt
      have := i.isLt
      exact Fin.ext (by omega)
    · rintro rfl
      rfl
  show ((((BitVec.setWidth 32 (BitVec.ofBool (BitVec.ofNat 32 k.val == BitVec.ofNat 32 i.val))).toInt : ℤ) : ℝ) : EReal) = _
  rw [hiff]
  by_cases h : k = i <;> simp [h]

/-- An extended real below the top, added to its own difference with itself, is unchanged. -/
theorem add_sub_self {a : EReal} (h : a < ⊤) : a + (a - a) = a := by
  induction a using EReal.rec with
  | bot => rfl
  | top => exact absurd h (lt_irrefl _)
  | coe r => rw [← EReal.coe_sub, sub_self, EReal.coe_zero, add_zero]

/-- The row a tile selects for its row `r` is the first nearest codebook row, where that row has no infinite entry above. -/
theorem pay1_apply (v0 : FVec Ideal S256x32 .f32) (v2 : FVec Ideal S8192x32 .f32) (hW : ∀ k e, v2 (ix2 k e) < ⊤)
    (r : Fin 256) (d : Fin 32) :
    k0_pay1 (k0_pay4 (F := Ideal) v0 v2) (k0_pay6 (F := Ideal) v2) (k0_pay7 (F := Ideal) v0 v2)
        (constant S256x32 .f32 0x00000000#32) (ix2 r d)
      = v2 (ix2 (nearest (fun e => v0 (ix2 r e)) fun k e => v2 (ix2 k e)) d) := by
  pointwise [k0_pay1, k0_pay4, k0_pay6, k0_pay7, k0_pay5]
  rw [pay2_apply]
  simp only [weight_eq]
  rw [sum_indicator _ fun k => v2 (ix2 k d), sum_indicator _ fun k => v2 (ix2 k d) - v2 (ix2 k d)]
  exact add_sub_self (hW _ _)

end Vq

end
-- ==== Proof.Arrays.lean ====
/-
  The kernel's two result arrays after the run, as functions of the flattened points and the codebook.
-/
module

public import proofs.«01_k».proof.Proof.Payload
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Vq

variable (m : (ℓ : Loc nD τ sig) → Buf (Elt Ideal) ℓ)

/-- The first codebook row nearest to point `r` of the flattened points. -/
def rowOf (X : FVec Ideal S16384x32 .f32) (W : FVec Ideal S8192x32 .f32) (r : Fin 16384) : Fin 8192 :=
  nearest (fun e => X (ix2 r e)) fun k e => W (ix2 k e)

/-- The quantized points: for each point its nearest codebook row. -/
def quantOf (X : FVec Ideal S16384x32 .f32) (W : FVec Ideal S8192x32 .f32) : FVec Ideal S16384x32 .f32 :=
  fun i => W (ix2 (rowOf X W (i 0)) (i 1))

/-- The numbers of those rows, laid out by tile. -/
def indexOf (X : FVec Ideal S16384x32 .f32) (W : FVec Ideal S8192x32 .f32) : IVec S64x1x256 32 :=
  fun i => BitVec.ofNat 32 (rowOf X W ⟨256 * (i 0).val + (i 2).val, by
    have h0 : (i 0).val < 64 := (i 0).isLt
    have h2 : (i 2).val < 256 := (i 2).isLt
    omega⟩).val

/-- The windows' block indices at every grid point. -/
theorem idx : ∀ t : Fin cfg0.N, win0_0.index t = ![t.val, 0] ∧ win0_1.index t = ![0, 0] ∧ win0_2.index t = ![t.val, 0]
    ∧ win0_3.index t = ![t.val, 0, 0] :=
  (by decide +kernel : ∀ t : Fin grid0.N, _)

/-- A grid point's number is below the number of tiles. -/
theorem point_lt (t : Fin cfg0.N) : t.val < 64 := by idx_bounds; omega

/-- The flattened points as a plain array. -/
abbrev Xv (c : Dev nD) : FVec Ideal S16384x32 .f32 := V m c main_v0

/-- The codebook as a plain array. -/
abbrev Wv (c : Dev nD) : FVec Ideal S8192x32 .f32 := m ((c : Thread nD τ).loc main_arg1)

/-- Row `r` of the tile of points at grid point `t` is row `256 t + r` of the points. -/
theorem points_read (c : Dev nD) (t : Fin cfg0.N) (r : Fin 256) (q : Fin 16384) (hq : q.val = 256 * t.val + r.val) (e : Fin 32) :
    (show FVec Ideal S256x32 .f32 from iblk m c 0 t) (ix2 r e) = Xv m c (ix2 q e) := by
  show iblk m c 0 t (ix2 r e) = V m c main_v0 (ix2 q e)
  blk_ext [iblk, idx t]

/-- The tile of the codebook is the codebook, at every grid point. -/
theorem codebook_read (c : Dev nD) (t : Fin cfg0.N) :
    (show FVec Ideal S8192x32 .f32 from iblk m c 1 t) = Wv m c := by
  show iblk m c 1 t = m ((c : Thread nD τ).loc main_arg1)
  blk_ext! [iblk, V, idx t]

/-- The nearest row to a tile's row is the nearest row to the point it is. -/
theorem nearest_tile (X0 : FVec Ideal S256x32 .f32) (X : FVec Ideal S16384x32 .f32) (W : FVec Ideal S8192x32 .f32)
    (r : Fin 256) (q : Fin 16384) (h : ∀ e, X0 (ix2 r e) = X (ix2 q e)) :
    nearest (fun e => X0 (ix2 r e)) (fun k e => W (ix2 k e)) = rowOf X W q := by
  unfold rowOf
  rw [funext h]

/-- A tile's selected rows are those of the points its rows are. -/
theorem tile_quant (X0 : FVec Ideal S256x32 .f32) (W0 : FVec Ideal S8192x32 .f32) (X : FVec Ideal S16384x32 .f32)
    (W : FVec Ideal S8192x32 .f32) (r : Fin 256) (q : Fin 16384) (d : Fin 32) (h0 : ∀ e, X0 (ix2 r e) = X (ix2 q e))
    (h1 : W0 = W) (hW : ∀ k e, W (ix2 k e) < ⊤) :
    k0_pay1 (k0_pay4 (F := Ideal) X0 W0) (k0_pay6 (F := Ideal) W0) (k0_pay7 (F := Ideal) X0 W0)
        (constant S256x32 .f32 0x00000000#32) (ix2 r d) = quantOf X W (ix2 q d) := by
  subst h1
  rw [pay1_apply _ _ hW, nearest_tile X0 X W0 r q h0]
  rfl

/-- A tile's stored words are the numbers of those rows. -/
theorem tile_index (X0 : FVec Ideal S256x32 .f32) (W0 : FVec Ideal S8192x32 .f32) (X : FVec Ideal S16384x32 .f32)
    (W : FVec Ideal S8192x32 .f32) (t : Fin 64) (r : Fin 256) (q : Fin 16384) (hq : q.val = 256 * t.val + r.val)
    (h0 : ∀ e, X0 (ix2 r e) = X (ix2 q e)) (h1 : W0 = W) :
    k0_pay3 (F := Ideal) X0 W0 (ix3 0 0 r) = indexOf X W (ix3 t 0 r) := by
  subst h1
  pointwise [k0_pay3]
  rw [pay2_apply, nearest_tile X0 X W0 r q h0]
  unfold indexOf
  rw [show q = ⟨256 * t.val + r.val, hq ▸ q.isLt⟩ from Fin.ext hq]
  rfl

/-- The words' array after the run. -/
theorem final3 (c : Dev nD) : (dats m 0 c).arrAt 3 (cfgs 0).N = indexOf (Xv m c) (Wv m c) := by
  refine (dats m 0 c).arrAt_eq_of_covers 3 _ (by decide +kernel) fun t _ y => ?_
  blk_simp
  rw [after0_3]; frame_out
  idx_vars y
  have ht := point_lt t
  have hr : y2.val < 256 := y2.isLt
  obtain rfl : y0 = 0 := Subsingleton.elim _ _
  obtain rfl : y1 = 0 := Subsingleton.elim _ _
  have e : ((View.whole main_v1_1).slice (win0_3.rect t)).emb (ix3 0 0 y2) = ix3 (⟨t.val, ht⟩ : Fin 64) (0 : Fin 1) y2 := by
    blk_ext [idx t]
  rw [e]
  exact tile_index (iblk m c 0 t) (iblk m c 1 t) _ _ ⟨t.val, ht⟩ y2 ⟨256 * t.val + y2.val, by omega⟩ rfl
    (points_read m c t y2 _ rfl) (codebook_read m c t)

/-- The quantized points' array after the run. -/
theorem final2 (c : Dev nD) (hW : ∀ k e, Wv m c (ix2 k e) < ⊤) :
    (dats m 0 c).arrAt 2 (cfgs 0).N = quantOf (Xv m c) (Wv m c) := by
  refine (dats m 0 c).arrAt_eq_of_covers 2 _ (by decide +kernel) fun t _ y => ?_
  blk_simp
  rw [after0_2]; frame_out
  idx_vars y
  have ht := point_lt t
  have hr : y0.val < 256 := y0.isLt
  have e : ((View.whole main_v1_0).slice (win0_2.rect t)).emb (ix2 y0 y1)
      = ix2 (⟨256 * t.val + y0.val, by omega⟩ : Fin 16384) y1 := by
    blk_ext [idx t]
  rw [e]
  exact tile_quant (iblk m c 0 t) (iblk m c 1 t) _ _ y0 _ y1 (points_read m c t y0 _ rfl) (codebook_read m c t) hW

/-- The flattened points are the argument reshaped. -/
theorem Xv_eq (c : Dev nD) : Xv m c = shapeCast S16384x32 (m ((c : Thread nD τ).loc main_arg0)) shapeCasts_S16x1024x32_S16384x32 := by
  unfold Xv V V0
  simp only [hostOps0, List.flatten_cons, List.flatten_nil, List.append_nil]
  after_results
  rfl

/-- The second result is the words' array reshaped to one row. -/
theorem tail_eq (c : Dev nD) :
    Pipeline.afterTail₀ cfgs (dats m) 0 (V0 m) [hostOps1] c main_v2
      = shapeCast S1x16384 (indexOf (Xv m c) (Wv m c)) shapeCasts_S64x1x256_S1x16384 := by
  rw [← final3 m c]
  unfold Pipeline.afterTail₀
  simp only [hostOps1, List.flatten_cons, List.flatten_nil, List.append_nil]
  after_results
  rw [Pipeline.withArrays_arr spec0 launch0.win.arr_inj c (V0 m c) (fun w => (dats m 0 c).arrAt w (cfgs 0).N) 3]
  rfl

end Vq

end
-- ==== Proof.Reference.lean ====
/-
  What the reference computes, over plain arrays: its table of distances, the position its search returns for a point,
  and the codebook rows its lookup takes.
-/
module

public import proofs.«01_k».proof.Proof.Arrays
public import proofs.«01_k».proof.Proof.Gen.ReferenceIdeal
public import Idealize.ShloMosaic.Lib.Routing.Ops

@[expose] public section

set_option maxRecDepth 16384

noncomputable section

open Idealize.ShloMosaic
open Cert.ReferenceIdeal Cert.ReferenceIdeal.Gen

namespace Vq

/-! ## The ideal square root keeps the order of numbers that are not negative -/

/-- The ideal square root compares two numbers that are not negative as the numbers themselves compare. -/
theorem sqrt_le_sqrt_iff {a b : EReal} (ha : 0 ≤ a) (hb : 0 ≤ b) : Ideal.sqrt a ≤ Ideal.sqrt b ↔ a ≤ b := by
  induction a using EReal.rec with
  | bot => exact absurd ha (by simp)
  | top =>
    induction b using EReal.rec with
    | bot => exact absurd hb (by simp)
    | top => simp
    | coe y =>
      have hy : 0 ≤ y := EReal.coe_nonneg.1 hb
      rw [Ideal.sqrt_coe, if_neg (not_lt.2 hy), Ideal.sqrt_top]
      simp
  | coe x =>
    have hx : 0 ≤ x := EReal.coe_nonneg.1 ha
    rw [Ideal.sqrt_coe, if_neg (not_lt.2 hx)]
    induction b using EReal.rec with
    | bot => exact absurd hb (by simp)
    | top => simp
    | coe y =>
      have hy : 0 ≤ y := EReal.coe_nonneg.1 hb
      rw [Ideal.sqrt_coe, if_neg (not_lt.2 hy), EReal.coe_le_coe_iff, EReal.coe_le_coe_iff, Real.sqrt_le_sqrt_iff hy]

/-! ## The table of distances -/

/-- The reference's distances, from every point to every codebook row. -/
def distR (X : FVec Ideal S16384x32 .f32) (W : FVec Ideal S8192x32 .f32) : FVec Ideal S16384x8192 .f32 :=
  Host.sqrt (maximumf
    (broadcastInDim S16384x8192 ![] bcast_S_S16384x8192 (constant S_ .f32 0x00000000#32))
    (subf
      (addf
        (broadcastInDim S16384x8192 ![0, 1] bcast_S16384x1_S16384x8192_0_1 (broadcastInDim S16384x1 ![0] bcast_S16384_S16384x1_0
          (Host.reduceAdd (mulf X X) (constant S_ .f32 0x00000000#32) reducesTo_S16384x32_S16384_d1 h_S_)))
        (broadcastInDim S16384x8192 ![0, 1] bcast_S1x8192_S16384x8192_0_1 (broadcastInDim S1x8192 ![1] bcast_S8192_S1x8192_1
          (Host.reduceAdd (mulf W W) (constant S_ .f32 0x00000000#32) reducesTo_S8192x32_S8192_d1 h_S_))))
      (mulf (broadcastInDim S16384x8192 ![] bcast_S_S16384x8192 (constant S_ .f32 0x40000000#32))
        (Host.dotGeneral dot_S16384x32_S32x8192_S16384x8192_1_0_0_1_n_n none X
          (transpose S32x8192 [1, 0] W transposes_S8192x32_S32x8192_1_0)))))

/-- An entry of the table: the root of the squared distance clipped at zero. -/
theorem distR_apply (X : FVec Ideal S16384x32 .f32) (W : FVec Ideal S8192x32 .f32) (r : Fin 16384) (k : Fin 8192) :
    distR X W (ix2 r k) = Ideal.sqrt (max (sqDist (fun e => X (ix2 r e)) fun e => W (ix2 k e)) 0) := by
  pointwise [distR]
  rw [max_comm]
  rfl

/-! ## The search -/

/-- The second components of a table of pairs. -/
def seconds {ι α β : Type} (f : ι → α × β) : ι → β := fun j => (f j).2

/-- The second components read at an index. -/
theorem seconds_apply {ι α β : Type} (f : ι → α × β) (j : ι) : seconds f j = (f j).2 := rfl

/-- The reference's search along the rows of a table of distances. -/
def searchR (D : FVec Ideal S16384x8192 .f32) : IVec S16384 32 :=
  seconds (Host.argReduce reducer_argmin_f32_i32 D (iotaInDim S16384x8192 32 1) (constant S_ .f32 0x7F800000#32)
    (constantI S_ 32 0#32) reducesTo_S16384x8192_S16384_d1 h_S_)

/-- The search returns the number of a row's first least position. -/
theorem searchR_apply (D : FVec Ideal S16384x8192 .f32) (r : Fin 16384) :
    searchR D (ix1 r) = BitVec.ofNat 32 (firstMin fun k : Fin 8192 => D (ix2 r k)).val := by
  have hn : 8192 < 2 ^ 31 := by norm_num
  have hy : ∀ k : Fin 8192, iotaInDim S16384x8192 32 1 (ix2 r k) = BitVec.ofNat 32 k.val := fun k => by pointwise
  have hi : ∀ i, (constant S_ .f32 0x7F800000#32 : FVec Ideal S_ .f32) i = ⊤ := fun _ => ofBits_inf
  have hz : ∀ i, constantI S_ 32 0#32 i = 0#32 := fun _ => rfl
  rw [searchR, seconds_apply]
  exact argReduce_apply (n := 8192) D (iotaInDim S16384x8192 32 1) (constant S_ .f32 0x7F800000#32) (constantI S_ 32 0#32)
    reducesTo_S16384x8192_S16384_d1 h_S_ hn (ix1 r) r rfl hi hz hy

/-- The first least position of a point's distances is its first nearest codebook row: the root keeps the order. -/
theorem firstMin_distR (X : FVec Ideal S16384x32 .f32) (W : FVec Ideal S8192x32 .f32) (r : Fin 16384) :
    (firstMin fun k : Fin 8192 => distR X W (ix2 r k)) = rowOf X W r := by
  unfold rowOf nearest
  apply firstMin_congr
  intro i j
  rw [distR_apply, distR_apply]
  exact sqrt_le_sqrt_iff (le_max_right _ _) (le_max_right _ _)

/-- The reference's position for a point is the number of the first nearest codebook row. -/
theorem search_distR (X : FVec Ideal S16384x32 .f32) (W : FVec Ideal S8192x32 .f32) (r : Fin 16384) :
    searchR (distR X W) (ix1 r) = BitVec.ofNat 32 (rowOf X W r).val := by
  rw [searchR_apply, firstMin_distR]

/-! ## The lookup -/

/-- The positions as the reference's lookup reads them: a negative one counted from the end. -/
def wrapR (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- The reference's lookup of the positions `i` in the codebook. -/
def takeR (W : FVec Ideal S8192x32 .f32) (i : IVec S16384 32) : FVec Ideal S16384x32 .f32 :=
  select
    (broadcastInDim S16384x32 ![0] bcast_S16384_S16384x32_0
      (Host.reduce IntOp.andi
        (andi (cmpi .sge (wrapR i) (broadcastInDim S16384x1 ![] bcast_S_S16384x1 (constantI S_ 32 0#32)))
          (cmpi .sle (wrapR i) (broadcastInDim S16384x1 ![0, 1] bcast_S1x1_S16384x1_0_1
            (broadcastInDim S1x1 ![1] bcast_S1_S1x1_1 (constantI S1 32 8191#32)))))
        (constantI S_ 1 1#1) reducesTo_S16384x1_S16384_d1 h_S_))
    (Host.gather gather_S8192x32_S16384x1_S16384x32_1_0_n_n_0_1_132 W (wrapR i))
    (broadcastInDim S16384x32 ![] bcast_S_S16384x32 (constant S_ .f32 0x7FC00000#32))

/-- Where the position of point `r` is the number of the codebook row `k`, the lookup takes row `k` for it. -/
theorem takeR_apply (W : FVec Ideal S8192x32 .f32) (i : IVec S16384 32) (r : Fin 16384) (d : Fin 32) (k : Fin 8192)
    (hk : i (ix1 r) = BitVec.ofNat 32 k.val) : takeR W i (ix2 r d) = W (ix2 k d) := by
  have h0 : IntOp.cmpi .slt (i (ix1 r)) 0#32 = 0#1 := by
    rw [hk]
    have := toInt_ofNat (k := k.val) (by have := k.isLt; omega)
    have h' : ¬ ((k.val : ℤ) < 0) := by omega
    simp [IntOp.cmpi, BitVec.slt, this, h']
  have h1 : IntOp.cmpi .sge (i (ix1 r)) 0#32 = 1#1 := by
    rw [hk]
    have := toInt_ofNat (k := k.val) (by have := k.isLt; omega)
    simp [IntOp.cmpi, BitVec.sle, this]
  have h2 : IntOp.cmpi .sle (i (ix1 r)) 8191#32 = 1#1 := by
    rw [hk]
    have := toInt_ofNat (k := k.val) (by have := k.isLt; omega)
    have h8 : (8191#32).toInt = 8191 := by decide
    have hk' := k.isLt
    have : (k.val : ℤ) ≤ 8191 := by omega
    simp [IntOp.cmpi, BitVec.sle, *]
  have hw : wrapR i (ix2 r (0 : Fin 1)) = BitVec.ofNat 32 k.val := by
    pointwise [wrapR]
    rw [h0]
    exact hk
  have hg : Host.gather gather_S8192x32_S16384x1_S16384x32_1_0_n_n_0_1_132 W (wrapR i) (ix2 r d) = W (ix2 k d) :=
    Routing.gather_row _ rfl rfl rfl rfl rfl W (wrapR i) r d k hw (by norm_num)
  pointwise [takeR]
  have hm : ∀ x : Fin 1, wrapR i (ix2 r x) = BitVec.ofNat 32 k.val := fun x => by
    rw [Subsingleton.elim x 0, hw]
  rw [hg]
  simp only [hm]
  rw [← hk, h1, h2]
  rfl

/-! ## The two results -/

/-- The reference's quantized points are each point's first nearest codebook row. -/
theorem quantR_eq (X : FVec Ideal S16384x32 .f32) (W : FVec Ideal S8192x32 .f32) :
    takeR W (shapeCast S16384 (broadcastInDim S1x16384 ![1] bcast_S16384_S1x16384_1 (searchR (distR X W)))
      shapeCasts_S1x16384_S16384) = quantOf X W := by
  funext j
  idx_vars j
  refine (takeR_apply W _ j0 j1 (rowOf X W j0) ?_).trans rfl
  pointwise
  exact search_distR X W j0

/-- The reference's positions are the numbers of those rows. -/
theorem indexR_eq (X : FVec Ideal S16384x32 .f32) (W : FVec Ideal S8192x32 .f32) :
    broadcastInDim S1x16384 ![1] bcast_S16384_S1x16384_1 (searchR (distR X W))
      = shapeCast S1x16384 (indexOf X W) Cert.KernelIdeal.Gen.shapeCasts_S64x1x256_S1x16384 := by
  funext j
  idx_vars j
  pointwise
  refine (search_distR X W j1).trans ?_
  unfold indexOf
  refine congrArg (fun q : Fin 16384 => BitVec.ofNat 32 (rowOf X W q).val) (Fin.ext ?_)
  show j1.val = 256 * (j1.val / 256) + j1.val % 256
  exact (Nat.div_add_mod j1.val 256).symm

end Vq

end
-- ==== Proof.Algebraic.lean ====
/-
  The value claim: over the ideal numbers, from a codebook without an entry of plus infinity, the kernel's two results
  are the reference's.
-/
module

public import proofs.«01_k».proof.Defs
public import proofs.«01_k».proof.Proof.Reference
public import proofs.«01_k».proof.Proof.Gen.Pre_below_inf
public import Idealize.ShloMosaic.Lib.Claim

@[expose] public section

set_option maxRecDepth 16384

noncomputable section

open Idealize.ShloMosaic Idealize.SL.Sem

namespace Vq

/-- The precondition says that every codebook entry is below the top. -/
theorem below_top (x : FVec Ideal Cert.KernelIdeal.S16x1024x32 .f32) (W : FVec Ideal Cert.KernelIdeal.S8192x32 .f32)
    (h : Cert.Pre_below_inf.fn (F := Ideal) x W = fun _ => 1#1) (k : Fin 8192) (e : Fin 32) : W (ix2 k e) < ⊤ := by
  have h' := congrFun h (ix2 k e)
  revert h'
  pointwise [Cert.Pre_below_inf.fn]
  rw [ofBits_inf]
  intro h'
  by_contra hn
  rw [decide_eq_false hn] at h'
  exact absurd h' (by decide)

/-- The kernel's two results are the reference's. -/
theorem algebraic : Cert.algebraic_KernelIdeal_ReferenceIdeal_pre_below_inf := by
  pair_intro
  · run_from Cert.KernelIdeal.Gen.run_main m g
    exact Cert.KernelIdeal.Gen.W_main_arg0 m (Cert.KernelIdeal.Gen.dats m) c
  · hlo_run
    · rw [final2 m c fun k e => below_top _ _ (hpre c) k e, ← quantR_eq, Xv_eq]
      simp only [StableHlo.TRef.ofBuf_toBuf]
      simp only [StableHlo.TRef.ofBuf, StableHlo.TRef.toBuf, cast_eq]
      rfl
    · rw [tail_eq m c, ← indexR_eq, Xv_eq]
      rfl

end Vq

end
-- ==== Proof.lean ====
/-
  The certificate of the vector quantiser: every claim of `Cert.Claim`, put together from the generated frames and from
  the modules under proof/Proof/.

  * `Proof.FirstMin`  the first position of a least element of a finite list of extended reals;
  * `Proof.Search`    two ways to search for it: a masked least number, and a fold over pairs;
  * `Proof.Payload`   what one step of the kernel stores;
  * `Proof.Arrays`    what the kernel's two result arrays hold;
  * `Proof.Reference` what the reference computes;
  * `Proof.Algebraic` the two are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_below_inf
public import proofs.«01_k».proof.Proof.Algebraic
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference terminates without fault and leaves its two arguments unchanged. -/
theorem reference_arguments
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => ∀ c : Dev Cert.ReferenceIdeal.nD,
        r.2.mem (c.tc.loc Cert.ReferenceIdeal.main_arg0) = m (c.tc.loc Cert.ReferenceIdeal.main_arg0) ∧
        r.2.mem (c.tc.loc Cert.ReferenceIdeal.main_arg1) = m (c.tc.loc Cert.ReferenceIdeal.main_arg1)) := by
  hlo_run

/-- The reference's frame: besides, every semaphore counter ends at zero, for the program declares no semaphore. -/
theorem reference_frame : Cert.quiescent_ReferenceIdeal := fun m g _ =>
  (θ_run Cert.ReferenceIdeal.defs _ _).mono (fun r h => ⟨h, sem_eq_zero_of_no_sems (by decide) r.2⟩)
    (reference_arguments m g)

/-- The five claims: the three frames, the idealization, and the equality of the two results. -/
theorem claim : Cert.Claim :=
  ⟨Cert.Kernel.Gen.facts, Cert.KernelIdeal.Gen.facts, Cert.ReferenceIdeal.Gen.facts, Cert.Pre_below_inf.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Vq.algebraic⟩

end Cert.Proof

end
